-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_in_range [hPre_sums_in_range : Cert.Pre_sums_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sums_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_in_range [hPre_sums_in_range : Cert.Pre_sums_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sums_in_range [hKernelIdeal : Cert.KernelIdeal.Facts] [hPre_sums_in_range : Cert.Pre_sums_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sums_in_range [hReferenceIdeal : Cert.ReferenceIdeal.Facts] [hPre_sums_in_range : Cert.Pre_sums_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sums_in_range [hKernelIdeal : Cert.KernelIdeal.Facts] [hReferenceIdeal : Cert.ReferenceIdeal.Facts] [hPre_sums_in_range : Cert.Pre_sums_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sums_in_range : Cert.Pre_sums_in_range.Facts),
    quiescent_Kernel (hKernel := hKernel)
    ∧ quiescent_KernelIdeal (hKernelIdeal := hKernelIdeal)
    ∧ quiescent_KernelIdeal_pre_sums_in_range (hKernelIdeal := hKernelIdeal) (hPre_sums_in_range := hPre_sums_in_range)
    ∧ quiescent_ReferenceIdeal (hReferenceIdeal := hReferenceIdeal)
    ∧ quiescent_ReferenceIdeal_pre_sums_in_range (hReferenceIdeal := hReferenceIdeal) (hPre_sums_in_range := hPre_sums_in_range)
    ∧ preserves_Kernel_KernelIdeal
    ∧ algebraic_KernelIdeal_ReferenceIdeal_pre_sums_in_range (hKernelIdeal := hKernelIdeal) (hReferenceIdeal := hReferenceIdeal) (hPre_sums_in_range := hPre_sums_in_range)
-- ==== Pre_sums_in_range.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩

class Facts : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x40_S_d0_1 : S10000x40.ReducesTo [0, 1] S_
  h_S_ : 0 < S_.numel
  bcast_S_S10000x40 : S_.BroadcastsInDim S10000x40 (![] : Fin 0 → Fin S10000x40.rank)
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf
def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round {F : FTy → Type} [FloatOps F] (arg0 : FVec F S10000x40 .f32) : FVec F S10000x40 .f32 :=
  let v0 : FVec F S10000x40 .f32 := Host.roundeven arg0
  v0

def fn_clip {F : FTy → Type} [FloatOps F] (arg0 : FVec F S10000x40 .f32) (arg1 : FVec F S_ .f32) (arg2 : FVec F S_ .f32) : FVec F S10000x40 .f32 :=
  let v0 : FVec F S_ .f32 := id arg1
  let v1 : FVec F S10000x40 .f32 := broadcastInDim S10000x40 ![] bcast_S_S10000x40 v0
  let v2 : FVec F S10000x40 .f32 := maximumf v1 arg0
  let v3 : FVec F S_ .f32 := id arg2
  let v4 : FVec F S10000x40 .f32 := broadcastInDim S10000x40 ![] bcast_S_S10000x40 v3
  let v5 : FVec F S10000x40 .f32 := minimumf v4 v2
  v5

def fn_round_0 {F : FTy → Type} [FloatOps F] (arg0 : FVec F S10000x10000 .f32) : FVec F S10000x10000 .f32 :=
  let v0 : FVec F S10000x10000 .f32 := Host.roundeven arg0
  v0

def fn_clip_1 {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_part1 {F : FTy → Type} [FloatOps F] (main_v14 : FVec F S10000x40 .f32) (main_v16 : FVec F S10000x10000 .f32) (main_cst_5 : FVec F S_ .f32) : IVec S10000x40 1 :=
  let main_v17 : FVec F S10000x10000 .f32 := broadcastInDim S10000x10000 ![] bcast_S_S10000x10000 main_cst_5
  let main_v18 : FVec F S10000x10000 .f32 := subf main_v16 main_v17
  let main_v19 : FVec F S10000x10000 .f32 := fn_round_0 (F := F) main_v18
  let main_cst_6 : FVec F S_ .f32 := constant S_ .f32 0xC3000000#32
  let main_cst_7 : FVec F S_ .f32 := constant S_ .f32 0x42FE0000#32
  let main_v20 : FVec F S10000x10000 .f32 := fn_clip_1 (F := F) main_v19 main_cst_6 main_cst_7
  let main_v21 : FVec F S10000x10000 .f32 := Host.absf main_v20
  let main_v22 : FVec F S10000x40 .f32 := Host.absf main_v14
  let main_v23 : FVec F S10000x40 .f32 := (fun l r => Host.dotGeneral dot_S10000x10000_S10000x40_S10000x40_1_0_0_1_n_n none l r) main_v21 main_v22
  let main_cst_8 : FVec F S_ .f32 := constant S_ .f32 0x4C800000#32
  let main_v24 : FVec F S10000x40 .f32 := broadcastInDim S10000x40 ![] bcast_S_S10000x40 main_cst_8
  let main_v25 : IVec S10000x40 1 := cmpf .ole main_v23 main_v24
  main_v25

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) : IVec S10000x40 1 :=
  let main_v0 : FVec F S10000x128 .f32 := (fun l r => Host.dotGeneral dot_S10000x128_S128x128_S10000x128_1_0_0_1_n_n none l r) main_arg0 main_arg2
  let main_v1 : FVec F S10000x128 .f32 := (fun l r => Host.dotGeneral dot_S10000x10000_S10000x128_S10000x128_1_0_0_1_n_n none l r) main_arg1 main_v0
  let main_v2 : FVec F S1x128 .f32 := broadcastInDim S1x128 ![1] bcast_S128_S1x128_1 main_arg3
  let main_v3 : FVec F S10000x128 .f32 := broadcastInDim S10000x128 ![0, 1] bcast_S1x128_S10000x128_0_1 main_v2
  let main_v4 : FVec F S10000x128 .f32 := addf main_v1 main_v3
  let main_v5 : FVec F S10000x128 .f32 := fn_relu (F := F) main_v4
  let main_v6 : FVec F S10000x40 .f32 := (fun l r => Host.dotGeneral dot_S10000x128_S128x40_S10000x40_1_0_0_1_n_n none l r) main_v5 main_arg4
  let main_v7 : FVec F S10000x40 .f32 := Host.absf main_v6
  let main_cst : FVec F S_ .f32 := constant S_ .f32 0xFF800000#32
  let main_v8 : FVec F S_ .f32 := (fun x v => Host.reduce FloatOps.maximumf x v reducesTo_S10000x40_S_d0_1 h_S_) main_v7 main_cst
  let main_cst_0 : FVec F S_ .f32 := constant S_ .f32 0x0DA24260#32
  let main_v9 : FVec F S_ .f32 := maximumf main_v8 main_cst_0
  let main_cst_1 : FVec F S_ .f32 := constant S_ .f32 0x42FE0000#32
  let main_v10 : FVec F S_ .f32 := Host.divf main_v9 main_cst_1
  let main_v11 : FVec F S10000x40 .f32 := broadcastInDim S10000x40 ![] bcast_S_S10000x40 main_v10
  let main_v12 : FVec F S10000x40 .f32 := Host.divf main_v6 main_v11
  let main_v13 : FVec F S10000x40 .f32 := fn_round (F := F) main_v12
  let main_cst_2 : FVec F S_ .f32 := constant S_ .f32 0xC2FE0000#32
  let main_cst_3 : FVec F S_ .f32 := constant S_ .f32 0x42FE0000#32
  let main_v14 : FVec F S10000x40 .f32 := fn_clip (F := F) main_v13 main_cst_2 main_cst_3
  let main_cst_4 : FVec F S_ .f32 := constant S_ .f32 0x499BA3C0#32
  let main_v15 : FVec F S10000x10000 .f32 := broadcastInDim S10000x10000 ![] bcast_S_S10000x10000 main_cst_4
  let main_v16 : FVec F S10000x10000 .f32 := mulf main_arg1 main_v15
  let main_cst_5 : FVec F S_ .f32 := constant S_ .f32 0x43000000#32
  fn_part1 (F := F) main_v14 main_v16 main_cst_5
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x1 : Shape := ⟨2, ![1, 1]⟩
abbrev S1x128 : Shape := ⟨2, ![1, 128]⟩
abbrev S10000x40 : Shape := ⟨2, ![10000, 40]⟩
abbrev S50x200x10000 : Shape := ⟨3, ![50, 200, 10000]⟩
abbrev S200x10000 : Shape := ⟨2, ![200, 10000]⟩
abbrev S200x40 : Shape := ⟨2, ![200, 40]⟩
abbrev S1x200x10000 : Shape := ⟨3, ![1, 200, 10000]⟩
abbrev S200x128 : Shape := ⟨2, ![200, 128]⟩
abbrev S2x40 : Shape := ⟨2, ![2, 40]⟩
abbrev S1x10000x40 : Shape := ⟨3, ![1, 10000, 40]⟩
abbrev S1 : Shape := ⟨1, ![1]⟩
abbrev S1x1x1 : Shape := ⟨3, ![1, 1, 1]⟩
abbrev S1x40 : Shape := ⟨2, ![1, 40]⟩
abbrev S200 : Shape := ⟨1, ![200]⟩
abbrev S200x1 : Shape := ⟨2, ![200, 1]⟩

abbrev nBuf : Space → Nat
  | .hbm => 18
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S10000x128, .f32⟩
  | .hbm, ⟨11, _⟩ => ⟨S1x128, .f32⟩
  | .hbm, ⟨12, _⟩ => ⟨S10000x40, .f32⟩
  | .hbm, ⟨13, _⟩ => ⟨S50x200x10000, .i8⟩
  | .hbm, ⟨14, _⟩ => ⟨S10000x40, .i8⟩
  | .hbm, ⟨15, _⟩ => ⟨S2x40, .f32⟩
  | .hbm, ⟨16, _⟩ => ⟨S1x40, .f32⟩
  | .hbm, ⟨17, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S200x10000, .f32⟩
  | .local _ .vmem, ⟨4, _⟩ => ⟨S200x10000, .f32⟩
  | .local _ .vmem, ⟨5, _⟩ => ⟨S10000x128, .f32⟩
  | .local _ .vmem, ⟨6, _⟩ => ⟨S1x128, .f32⟩
  | .local _ .vmem, ⟨7, _⟩ => ⟨S128x40, .f32⟩
  | .local _ .vmem, ⟨8, _⟩ => ⟨S1x1, .f32⟩
  | .local _ .vmem, ⟨9, _⟩ => ⟨S200x40, .f32⟩
  | .local _ .vmem, ⟨10, _⟩ => ⟨S200x40, .f32⟩
  | .local _ .vmem, ⟨11, _⟩ => ⟨S1x200x10000, .i8⟩
  | .local _ .vmem, ⟨12, _⟩ => ⟨S1x200x10000, .i8⟩
  | .local _ .vmem, ⟨13, _⟩ => ⟨S10000x40, .f32⟩
  | .local _ .vmem, ⟨14, _⟩ => ⟨S10000x40, .i8⟩
  | .local _ .vmem, ⟨15, _⟩ => ⟨S2x40, .f32⟩
  | .local _ .vmem, ⟨16, _⟩ => ⟨S1x200x10000, .i8⟩
  | .local _ .vmem, ⟨17, _⟩ => ⟨S1x200x10000, .i8⟩
  | .local _ .vmem, ⟨18, _⟩ => ⟨S10000x40, .i8⟩
  | .local _ .vmem, ⟨19, _⟩ => ⟨S2x40, .f32⟩
  | .local _ .vmem, ⟨20, _⟩ => ⟨S1x40, .f32⟩
  | .local _ .vmem, ⟨21, _⟩ => ⟨S1x1, .f32⟩
  | .local _ .vmem, ⟨22, _⟩ => ⟨S200x40, .f32⟩
  | .local _ .vmem, ⟨23, _⟩ => ⟨S200x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc2_sem0_0 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23

abbrev nD : Nat := 1
abbrev τ : Topo := Topo.v5e

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x200x10000 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S10000x40 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x40 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x200x10000 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x40 .i8 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 80
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x40, .f32⟩
  | .hbm, ⟨15, _⟩ => ⟨S10000x40, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x40, .f32⟩
  | .hbm, ⟨23, _⟩ => ⟨S10000x40, .f32⟩
  | .hbm, ⟨24, _⟩ => ⟨S10000x40, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S10000x40, .f32⟩
  | .hbm, ⟨29, _⟩ => ⟨S10000x40, .f32⟩
  | .hbm, ⟨30, _⟩ => ⟨S_, .f32⟩
  | .hbm, ⟨31, _⟩ => ⟨S10000x40, .f32⟩
  | .hbm, ⟨32, _⟩ => ⟨S10000x40, .f32⟩
  | .hbm, ⟨33, _⟩ => ⟨S_, .f32⟩
  | .hbm, ⟨34, _⟩ => ⟨S10000x10000, .f32⟩
  | .hbm, ⟨35, _⟩ => ⟨S10000x10000, .f32⟩
  | .hbm, ⟨36, _⟩ => ⟨S_, .f32⟩
  | .hbm, ⟨37, _⟩ => ⟨S10000x10000, .f32⟩
  | .hbm, ⟨38, _⟩ => ⟨S10000x10000, .f32⟩
  | .hbm, ⟨39, _⟩ => ⟨S10000x10000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S10000x10000, .f32⟩
  | .hbm, ⟨44, _⟩ => ⟨S10000x10000, .f32⟩
  | .hbm, ⟨45, _⟩ => ⟨S_, .f32⟩
  | .hbm, ⟨46, _⟩ => ⟨S10000x10000, .f32⟩
  | .hbm, ⟨47, _⟩ => ⟨S10000x10000, .f32⟩
  | .hbm, ⟨48, _⟩ => ⟨S_, .f32⟩
  | .hbm, ⟨49, _⟩ => ⟨S10000x10000, .f32⟩
  | .hbm, ⟨50, _⟩ => ⟨S10000x10000, .f32⟩
  | .hbm, ⟨51, _⟩ => ⟨S10000x40, .f32⟩
  | .hbm, ⟨52, _⟩ => ⟨S10000x40, .f32⟩
  | .hbm, ⟨53, _⟩ => ⟨S10000x40, .f32⟩
  | .hbm, ⟨54, _⟩ => ⟨S_, .f32⟩
  | .hbm, ⟨55, _⟩ => ⟨S40, .f32⟩
  | .hbm, ⟨56, _⟩ => ⟨S_, .f32⟩
  | .hbm, ⟨57, _⟩ => ⟨S40, .f32⟩
  | .hbm, ⟨58, _⟩ => ⟨S40, .f32⟩
  | .hbm, ⟨59, _⟩ => ⟨S1x40, .f32⟩
  | .hbm, ⟨60, _⟩ => ⟨S10000x40, .f32⟩
  | .hbm, ⟨61, _⟩ => ⟨S10000x40, .f32⟩
  | .hbm, ⟨62, _⟩ => ⟨S1x40, .f32⟩
  | .hbm, ⟨63, _⟩ => ⟨S10000x40, .f32⟩
  | .hbm, ⟨64, _⟩ => ⟨S10000x40, .f32⟩
  | .hbm, ⟨65, _⟩ => ⟨S_, .f32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x40, .f32⟩
  | .hbm, ⟨72, _⟩ => ⟨S10000x40, .f32⟩
  | .hbm, ⟨73, _⟩ => ⟨S10000x40, .f32⟩
  | .hbm, ⟨74, _⟩ => ⟨S_, .f32⟩
  | .hbm, ⟨75, _⟩ => ⟨S10000, .f32⟩
  | .hbm, ⟨76, _⟩ => ⟨S10000x1, .f32⟩
  | .hbm, ⟨77, _⟩ => ⟨S10000x1, .f32⟩
  | .hbm, ⟨78, _⟩ => ⟨S10000x40, .f32⟩
  | .hbm, ⟨79, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_cst_7 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v20 : Ref sig .tc := ⟨.hbm, 47, rfl⟩
abbrev main_cst_8 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_cst_10 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call5_cst : Ref sig .tc := ⟨.hbm, 65, rfl⟩
abbrev main_call5_v0 : Ref sig .tc := ⟨.hbm, 66, rfl⟩
abbrev main_call5_cst_0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_v5 : Ref sig .tc := ⟨.hbm, 72, rfl⟩
abbrev main_call5_v6 : Ref sig .tc := ⟨.hbm, 73, rfl⟩
abbrev main_call5_cst_1 : Ref sig .tc := ⟨.hbm, 74, rfl⟩
abbrev main_call5_v7 : Ref sig .tc := ⟨.hbm, 75, rfl⟩
abbrev main_call5_v8 : Ref sig .tc := ⟨.hbm, 76, rfl⟩
abbrev main_call5_v9 : Ref sig .tc := ⟨.hbm, 77, rfl⟩
abbrev main_call5_v10 : Ref sig .tc := ⟨.hbm, 78, rfl⟩
abbrev main_v35 : Ref sig .tc := ⟨.hbm, 79, rfl⟩

abbrev nD : Nat := 1
abbrev τ : Topo := Topo.v5e

variable {F : FTy → Type} [FloatOps F]
-- ==== Proof.Run.lean ====
/- One run of the printed program, at any float values: what it leaves in the result array, the arguments and the
   semaphore counters. The launch is set up as the frame's; the last thread state is read at the result as well. -/
module

public import proofs.«01_k».proof.Proof.Gen.KernelIdeal.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from zero counters ends with each TensorCore's result at the last boundary's contents,
    its arguments as they were, and every semaphore counter at zero. -/
theorem run : θ_run defs (onTc (τ := τ) (main (F := F))) ⟨m, fun _ => 0, ρ⟩ (fun r => (∀ c : Dev nD,
      r.2.mem ((c.tc : Thread nD τ).loc main_v7) = W7 m ρ c (Proc.devRef .tc main_v7)
      ∧ ∀ a ∈ argRefs, r.2.mem ((c.tc : Thread nD τ).loc a) = m ((c.tc : Thread nD τ).loc a))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c =>
      ⟨h c _ (mem_uc main_v7 (by decide)),
       fun a ha => (h c _ (mem_uc a ((by decide : ∀ b ∈ argRefs, ¬ (Proc.devRef .tc b : DevRef τ sig).isScoped) a ha))).trans
         (W7_args m ρ c a ha)⟩,
      funext fun g => hz g (.inr (no_unscoped g.2))⟩)

/-- The frame, as the claims state it: the arguments and the counters. -/
theorem frame_of_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).2 _ (by decide), (h.1 c).2 _ (by decide), (h.1 c).2 _ (by decide), (h.1 c).2 _ (by decide),
     (h.1 c).2 _ (by decide), (h.1 c).2 _ (by decide)⟩, h.2⟩) (run m ρ)

end Cert.KernelIdeal.Own

end
-- ==== Proof.Same.lean ====
/- The printed kernel and its idealization have the same text: the same body table and the same @main, at any float values. -/
module

public import proofs.«01_k».proof.Defs
public import proofs.«01_k».proof.Proof.Gen.Kernel
public import proofs.«01_k».proof.Proof.Gen.KernelIdeal

@[expose] public section

set_option maxRecDepth 16384

namespace Cert.Same

open Idealize.ShloMosaic Idealize.ShloMosaic.TcCoe

/-! ## The staging buffers, one by one -/

theorem stage1_0 : Kernel.stage1_0 = KernelIdeal.stage1_0 := funext (Fin.forall_fin_two.2 ⟨rfl, rfl⟩)
theorem stage1_1 : Kernel.stage1_1 = KernelIdeal.stage1_1 := funext (Fin.forall_fin_one.2 rfl)
theorem stage1_2 : Kernel.stage1_2 = KernelIdeal.stage1_2 := funext (Fin.forall_fin_one.2 rfl)
theorem stage1_3 : Kernel.stage1_3 = KernelIdeal.stage1_3 := funext (Fin.forall_fin_one.2 rfl)
theorem stage1_4 : Kernel.stage1_4 = KernelIdeal.stage1_4 := funext (Fin.forall_fin_one.2 rfl)
theorem stage1_5 : Kernel.stage1_5 = KernelIdeal.stage1_5 := funext (Fin.forall_fin_two.2 ⟨rfl, rfl⟩)
theorem stage1_6 : Kernel.stage1_6 = KernelIdeal.stage1_6 := funext (Fin.forall_fin_two.2 ⟨rfl, rfl⟩)
theorem stage3_0 : Kernel.stage3_0 = KernelIdeal.stage3_0 := funext (Fin.forall_fin_two.2 ⟨rfl, rfl⟩)
theorem stage3_1 : Kernel.stage3_1 = KernelIdeal.stage3_1 := funext (Fin.forall_fin_one.2 rfl)
theorem stage3_2 : Kernel.stage3_2 = KernelIdeal.stage3_2 := funext (Fin.forall_fin_one.2 rfl)
theorem stage3_3 : Kernel.stage3_3 = KernelIdeal.stage3_3 := funext (Fin.forall_fin_one.2 rfl)
theorem stage3_4 : Kernel.stage3_4 = KernelIdeal.stage3_4 := funext (Fin.forall_fin_one.2 rfl)
theorem stage3_5 : Kernel.stage3_5 = KernelIdeal.stage3_5 := funext (Fin.forall_fin_two.2 ⟨rfl, rfl⟩)

/-! ## The bodies -/

variable (F : FTy → Type) [FloatOps F]

open Kernel in
/-- The first body is the same at the same buffers. -/
theorem body0 {a0 b0 : Memref sig .tc .vmem S10000x128 .f32} {a1 b1 : Memref sig .tc .vmem S128x128 .f32}
    {a2 b2 : Memref sig .tc .vmem S10000x128 .f32}
    (e0 : a0 = b0) (e1 : a1 = b1) (e2 : a2 = b2)
    (h0 : a0.IsWhole) (h0' : b0.IsWhole) (h1 : a1.IsWhole) (h1' : b1.IsWhole) (h2 : a2.IsWhole) (h2' : b2.IsWhole) :
    Kernel.cc0__s1_kernel (F := F) a0 h0 a1 h1 a2 h2 = KernelIdeal.cc0__s1_kernel b0 h0' b1 h1' b2 h2' := by
  subst e0; subst e1; subst e2
  rfl

open Kernel in
/-- The second body is the same at the same buffers. -/
theorem body1 (i : Kernel.grid1.Coords) {a0 b0 : Memref sig .tc .vmem S200x10000 .f32}
    {a1 b1 : Memref sig .tc .vmem S10000x128 .f32} {a2 b2 : Memref sig .tc .vmem S1x128 .f32}
    {a3 b3 : Memref sig .tc .vmem S128x40 .f32} {a4 b4 : Memref sig .tc .vmem S1x1 .f32}
    {a5 b5 : Memref sig .tc .vmem S200x40 .f32} {a6 b6 : Memref sig .tc .vmem S1x200x10000 .i8}
    (e0 : a0 = b0) (e1 : a1 = b1) (e2 : a2 = b2) (e3 : a3 = b3) (e4 : a4 = b4) (e5 : a5 = b5) (e6 : a6 = b6)
    (h0 : a0.IsWhole) (h0' : b0.IsWhole) (h1 : a1.IsWhole) (h1' : b1.IsWhole) (h2 : a2.IsWhole) (h2' : b2.IsWhole)
        (h3 : a3.IsWhole) (h3' : b3.IsWhole) (h4 : a4.IsWhole) (h4' : b4.IsWhole) (h5 : a5.IsWhole) (h5' : b5.IsWhole)
        (h6 : a6.IsWhole) (h6' : b6.IsWhole) :
    Kernel.cc1__pass1_kernel (F := F) i a0 h0 a1 h1 a2 h2 a3 h3 a4 h4 a5 h5 a6 h6 = KernelIdeal.cc1__pass1_kernel i b0
        h0' b1 h1' b2 h2' b3 h3' b4 h4' b5 h5' b6 h6' := by
  subst e0; subst e1; subst e2; subst e3; subst e4; subst e5; subst e6
  rfl

open Kernel in
/-- The third body is the same at the same buffers. -/
theorem body2 {a0 b0 : Memref sig .tc .vmem S10000x40 .f32} {a1 b1 : Memref sig .tc .vmem S10000x40 .i8}
    {a2 b2 : Memref sig .tc .vmem S2x40 .f32}
    (e0 : a0 = b0) (e1 : a1 = b1) (e2 : a2 = b2)
    (h0 : a0.IsWhole) (h0' : b0.IsWhole) (h1 : a1.IsWhole) (h1' : b1.IsWhole) (h2 : a2.IsWhole) (h2' : b2.IsWhole) :
    Kernel.cc2__quant_kernel (F := F) a0 h0 a1 h1 a2 h2 = KernelIdeal.cc2__quant_kernel b0 h0' b1 h1' b2 h2' := by
  subst e0; subst e1; subst e2
  rfl

open Kernel in
/-- The last body is the same at the same buffers. -/
theorem body3 (i : Kernel.grid3.Coords) {a0 b0 : Memref sig .tc .vmem S1x200x10000 .i8}
    {a1 b1 : Memref sig .tc .vmem S10000x40 .i8} {a2 b2 : Memref sig .tc .vmem S2x40 .f32}
    {a3 b3 : Memref sig .tc .vmem S1x40 .f32} {a4 b4 : Memref sig .tc .vmem S1x1 .f32}
    {a5 b5 : Memref sig .tc .vmem S200x40 .f32}
    (e0 : a0 = b0) (e1 : a1 = b1) (e2 : a2 = b2) (e3 : a3 = b3) (e4 : a4 = b4) (e5 : a5 = b5)
    (h0 : a0.IsWhole) (h0' : b0.IsWhole) (h1 : a1.IsWhole) (h1' : b1.IsWhole) (h2 : a2.IsWhole) (h2' : b2.IsWhole)
        (h3 : a3.IsWhole) (h3' : b3.IsWhole) (h4 : a4.IsWhole) (h4' : b4.IsWhole) (h5 : a5.IsWhole) (h5' : b5.IsWhole) :
    Kernel.cc3__pass2_kernel (F := F) i a0 h0 a1 h1 a2 h2 a3 h3 a4 h4 a5 h5 = KernelIdeal.cc3__pass2_kernel i b0 h0' b1
        h1' b2 h2' b3 h3' b4 h4' b5 h5' := by
  subst e0; subst e1; subst e2; subst e3; subst e4; subst e5
  rfl

/-- The body tables are the same. -/
theorem bodies : (Kernel.defs₀ (F := F)) = KernelIdeal.defs₀ := by
  refine congrArg Defs.onTc ?_
  funext l a
  match l, a with
  | 0, (t, s) => exact body0 F rfl rfl rfl _ _ _ _ _ _
  | 1, (t, s) =>
    exact body1 F _ (congrFun stage1_0 ((s 0).cast Kernel.Facts₀.nbuf1_0))
        (congrFun stage1_1 ((s 1).cast Kernel.Facts₀.nbuf1_1)) (congrFun stage1_2 ((s 2).cast Kernel.Facts₀.nbuf1_2))
        (congrFun stage1_3 ((s 3).cast Kernel.Facts₀.nbuf1_3)) (congrFun stage1_4 ((s 4).cast Kernel.Facts₀.nbuf1_4))
        (congrFun stage1_5 ((s 5).cast Kernel.Facts₀.nbuf1_5)) (congrFun stage1_6 ((s 6).cast Kernel.Facts₀.nbuf1_6))
      _ _ _ _ _ _ _ _ _ _ _ _ _ _
  | 2, (t, s) => exact body2 F rfl rfl rfl _ _ _ _ _ _
  | 3, (t, s) =>
    exact body3 F _ (congrFun stage3_0 ((s 0).cast Kernel.Facts₀.nbuf3_0))
        (congrFun stage3_1 ((s 1).cast Kernel.Facts₀.nbuf3_1)) (congrFun stage3_2 ((s 2).cast Kernel.Facts₀.nbuf3_2))
        (congrFun stage3_3 ((s 3).cast Kernel.Facts₀.nbuf3_3)) (congrFun stage3_4 ((s 4).cast Kernel.Facts₀.nbuf3_4))
        (congrFun stage3_5 ((s 5).cast Kernel.Facts₀.nbuf3_5))
      _ _ _ _ _ _ _ _ _ _ _ _

/-! ## The programs -/

/-- So are the tables with the launches, and @main. -/
theorem table : (Kernel.defs (F := F)) = KernelIdeal.defs := congrArg (Pipeline.defs Kernel.pcfgs) (bodies F)

theorem main : (Kernel.main (F := F)) = KernelIdeal.main := by rfl

end Cert.Same
-- ==== Proof.Numbers.lean ====
/- Extended-real facts the two programs share: the clipped rounding is a whole number of eight bits, the constants they
   hold, and the quantised product: a sum of products of whole numbers, scaled after or before it is summed. -/
module

public import Idealize.ShloMosaic.Lib.IntMxu
public import Idealize.ShloMosaic.Lib.Pointwise
public import Idealize.ShloMosaic.PureOps.Ideal.Laws

@[expose] public section

noncomputable section

namespace Cert.Own

open Idealize.ShloMosaic

theorem coe_max' (x y : ℝ) : ((max x y : ℝ) : EReal) = max (x : EReal) (y : EReal) :=
  EReal.coe_strictMono.monotone.map_max

theorem coe_min' (x y : ℝ) : ((min x y : ℝ) : EReal) = min (x : EReal) (y : EReal) :=
  EReal.coe_strictMono.monotone.map_min

/-- A sum of real numbers is the same sum among the extended reals. -/
theorem coe_sum' {ι : Type} [Fintype ι] (f : ι → ℝ) : (∑ k, (f k : EReal)) = ((∑ k, f k : ℝ) : EReal) := by
  classical
  refine Finset.induction_on (Finset.univ : Finset ι) (by simp) fun k t hk ih => ?_
  rw [Finset.sum_insert hk, Finset.sum_insert hk, ih, EReal.coe_add]

/-- The whole number that rounding `x` to nearest, ties to even, and clipping to `[lo, 127]` gives. -/
def code (lo : Int) (x : EReal) : Int :=
  Ideal.toIntClamped lo 127 (Ideal.liftRound Ideal.roundHalfEven x)

theorem code_coe (lo : Int) (r : ℝ) : code lo (r : EReal) = max lo (min 127 (Ideal.roundHalfEven r)) := by
  simp only [code, Ideal.liftRound_coe, Ideal.toIntClamped_coe, Int.floor_intCast, Int.ceil_intCast, ite_self]

theorem code_le (lo : Int) (h : lo ≤ 127) (x : EReal) : code lo x ≤ 127 := by
  induction x with
  | bot => exact h
  | top => exact le_refl _
  | coe r => rw [code_coe]; omega

theorem le_code (lo : Int) (h : lo ≤ 127) (x : EReal) : lo ≤ code lo x := by
  induction x with
  | bot => exact le_refl _
  | top => exact h
  | coe r => rw [code_coe]; omega

/-- Clipping the rounded value, as both programs write it, gives that whole number. -/
theorem clip_round (lo : Int) (h : lo ≤ 127) (x : EReal) :
    min ((127 : ℝ) : EReal) (max ((lo : ℝ) : EReal) (Ideal.liftRound Ideal.roundHalfEven x)) = ((code lo x : ℝ) : EReal) := by
  have h' : ((lo : ℝ)) ≤ 127 := by exact_mod_cast h
  induction x with
  | bot =>
    rw [Ideal.liftRound_bot, max_eq_left bot_le, min_eq_right (EReal.coe_le_coe_iff.mpr h')]; rfl
  | top =>
    rw [Ideal.liftRound_top, max_eq_right le_top, min_eq_left le_top]
    show _ = ((((127 : Int)) : ℝ) : EReal); norm_num
  | coe r =>
    rw [code_coe, Ideal.liftRound_coe, ← coe_max', ← coe_min']
    congr 1
    push_cast
    rw [max_min_distrib_left, max_eq_right h', min_comm]

theorem code_zero (lo : Int) (h : lo ≤ 0) : code lo 0 = 0 := by
  have : Ideal.roundHalfEven 0 = 0 := by simp [Ideal.roundHalfEven]
  rw [← EReal.coe_zero, code_coe, this]; omega

/-- The eight-bit word that a conversion of such a number gives is that number. -/
theorem toInt_fptosi_code (lo : Int) (hlo : -128 ≤ lo) (h : lo ≤ 127) (x : EReal) :
    (Ideal.fptosi 8 ((code lo x : ℝ) : EReal)).toInt = code lo x := by
  have h1 := code_le lo h x
  have h2 := le_code lo h x
  unfold Ideal.fptosi
  rw [Ideal.toIntClamped_coe, Int.floor_intCast, Int.ceil_intCast, ite_self, BitVec.toInt_ofInt]
  have e : max (-(2 ^ (8 - 1) : Nat) : Int) (min (((2 ^ (8 - 1) : Nat) : Int) - 1) (code lo x)) = code lo x := by
    norm_num; omega
  rw [e]
  apply Int.bmod_eq_of_le <;> omega

/-! ### The constants -/

theorem ofBits_127 : Ideal.ofBits .f32 0x42FE0000#32 = ((127 : ℝ) : EReal) := by
  simp [Ideal.ofBits, Ideal.ieee]; norm_cast; norm_num
theorem ofBits_neg_127 : Ideal.ofBits .f32 0xC2FE0000#32 = (((-127 : Int) : ℝ) : EReal) := by
  simp [Ideal.ofBits, Ideal.ieee]; norm_cast; norm_num
theorem ofBits_neg_128 : Ideal.ofBits .f32 0xC3000000#32 = (((-128 : Int) : ℝ) : EReal) := by
  simp [Ideal.ofBits, Ideal.ieee]; norm_cast; norm_num
theorem ofBits_128 : Ideal.ofBits .f32 0x43000000#32 = ((128 : ℝ) : EReal) := by
  simp [Ideal.ofBits, Ideal.ieee]; norm_cast; norm_num
theorem ofBits_bound : Ideal.ofBits .f32 0x4C800000#32 = (((2 ^ 26 : Nat) : ℝ) : EReal) := by
  simp [Ideal.ofBits, Ideal.ieee]; norm_cast
theorem ofBits_bot : Ideal.ofBits .f32 0xFF800000#32 = ⊥ := by
  simp [Ideal.ofBits, Ideal.ieee]

/-- The adjacency's step, the number both programs hold for `(2 / N) / 255`. -/
def da : ℝ := 13797793 * 2 ^ (-44 : Int)

theorem ofBits_da : Ideal.ofBits .f32 0x355289A1#32 = (da : EReal) := by
  simp [Ideal.ofBits, Ideal.ieee, da]
/-- The reference's `128` steps are the kernel's `128` times the step. -/
theorem ofBits_128_da : Ideal.ofBits .f32 0x38D289A1#32 = ((128 : ℝ) : EReal) * (da : EReal) := by
  rw [← EReal.coe_mul]
  simp [Ideal.ofBits, Ideal.ieee, da]; norm_cast; norm_num

/-! ### The quantised product -/

/-- Whole numbers `a k`, `q k` of which the `q` are codes of `s k / step`: the sum of the products scaled after it is summed
    (by `step * d`) is the sum of the scaled products. At an infinite step every code is zero, so both are zero. -/
theorem scaled_sum {ι : Type} [Fintype ι] (a : ι → Int) (s : ι → EReal) (d : ℝ) (step : EReal) :
    ((((∑ k, a k * code (-127) (Ideal.div (s k) step) : Int)) : ℝ) : EReal) * (step * (d : EReal))
      = ∑ k, ((d : EReal) * ((a k : ℝ) : EReal)) * (step * ((code (-127) (Ideal.div (s k) step) : ℝ) : EReal)) := by
  have hz : step⁻¹ = 0 → step ≠ 0 → ∀ k, code (-127) (Ideal.div (s k) step) = 0 := fun h0 h1 k => by
    rw [Ideal.div, if_neg h1, h0, mul_zero, code_zero _ (by decide)]
  have hzero : (∀ k, code (-127) (Ideal.div (s k) step) = 0) →
      ((((∑ k, a k * code (-127) (Ideal.div (s k) step) : Int)) : ℝ) : EReal) * (step * (d : EReal))
        = ∑ k, ((d : EReal) * ((a k : ℝ) : EReal)) * (step * ((code (-127) (Ideal.div (s k) step) : ℝ) : EReal)) := fun h => by
    simp [h]
  induction step with
  | bot => exact hzero (hz EReal.inv_bot EReal.bot_ne_zero)
  | top => exact hzero (hz EReal.inv_top EReal.top_ne_zero)
  | coe r =>
    have e : ∀ k, ((d : EReal) * ((a k : ℝ) : EReal)) * ((r : EReal) * ((code (-127) (Ideal.div (s k) r) : ℝ) : EReal))
        = ((d * a k * (r * code (-127) (Ideal.div (s k) r)) : ℝ) : EReal) := fun k => by push_cast; rfl
    simp only [e]
    rw [← EReal.coe_mul, ← EReal.coe_mul]
    rw [coe_sum']
    congr 1
    push_cast
    rw [Finset.sum_mul]
    exact Finset.sum_congr rfl fun k _ => by ring

/-- The stated range, read as a bound on natural numbers. -/
theorem abs_sum_le {ι : Type} [Fintype ι] (a q : ι → Int) (n : Nat)
    (h : ∑ k, max ((a k : ℝ) : EReal) (-((a k : ℝ) : EReal)) * max ((q k : ℝ) : EReal) (-((q k : ℝ) : EReal)) ≤ ((n : ℝ) : EReal)) :
    ∑ k, (a k * q k).natAbs ≤ n := by
  have e : ∀ k, max ((a k : ℝ) : EReal) (-((a k : ℝ) : EReal)) * max ((q k : ℝ) : EReal) (-((q k : ℝ) : EReal))
      = ((((a k * q k).natAbs : Nat) : ℝ) : EReal) := fun k => by
    rw [← EReal.coe_neg, ← EReal.coe_neg, ← coe_max', ← coe_max', ← EReal.coe_mul]
    congr 1
    show |(a k : ℝ)| * |(q k : ℝ)| = _
    rw [← abs_mul, Nat.cast_natAbs]; push_cast; rfl
  simp only [e] at h
  rw [coe_sum', EReal.coe_le_coe_iff] at h
  exact_mod_cast h

end Cert.Own

end
-- ==== Proof.Ref.lean ====
/- The reference's value, stage by stage: each stage is a function of the arrays it reads, with its entry at an index. The
   kernel's results are stated against these stages, and the precondition is read through them. -/
module

public import proofs.«01_k».proof.Proof.Gen.ReferenceIdeal
public import proofs.«01_k».proof.Proof.Numbers

@[expose] public section

set_option maxRecDepth 16384

noncomputable section

namespace Cert.Own

open Idealize.ShloMosaic Idealize.ShloMosaic.TcCoe
open Cert.ReferenceIdeal Cert.ReferenceIdeal.Gen

section
variable {n0 n1 : Nat}

/-- The largest size of an entry of a rank-two array (minus infinity below every entry). -/
def largest (v : FVec Ideal (⟨2, ![n0, n1]⟩ : Shape) .f32) : EReal :=
  Finset.univ.fold max (Ideal.ofBits .f32 0xFF800000#32) fun k : Fin n0 × Fin n1 => max (v (ix2 k.1 k.2)) (-v (ix2 k.1 k.2))

/-- The host's maximum over both axes. -/
theorem host_largest (v : FVec Ideal (⟨2, ![n0, n1]⟩ : Shape) .f32) {t u : Shape}
    (h : (⟨2, ![n0, n1]⟩ : Shape).ReducesTo [0, 1] t) (hu : 0 < u.numel) (j : t.Idx) :
    Host.reduce FloatOps.maximumf (Host.absf v) (constant u .f32 0xFF800000#32) h hu j = largest v := by
  rw [Host.reduce_eq_fold, h.fold_fiber_r2_a01]
  rfl

/-- The kernel's maximum over both axes, of the array seen as one slab. -/
theorem kernel_largest (v : FVec Ideal (⟨2, ![n0, n1]⟩ : Shape) .f32) {t : Shape}
    (hc : (⟨2, ![n0, n1]⟩ : Shape).ShapeCasts (⟨3, ![1, n0, n1]⟩ : Shape))
    (h : (⟨3, ![1, n0, n1]⟩ : Shape).Reduces [1, 2] t) (hφ : FKind.Formats .f32)
    (hacc : (0xFF800000#32 : BitVec FTy.f32.bits) = FKind.maximumf.neutral .f32 hφ) (j : t.Idx) :
    multiReduction .maximumf [1, 2] t (shapeCast (⟨3, ![1, n0, n1]⟩ : Shape) (absf v) hc) 0xFF800000#32 h hφ hacc j = largest v := by
  rw [multiReduction_maximumf_eq_fold, h.fold_fiber_r3_a12]
  unfold largest
  refine Finset.fold_congr fun k _ => ?_
  rw [shapeCast_addUnit_apply ![n0, n1] (absf v) hc]
  refine (congrArg (absf v) (a₂ := ix2 k.1 k.2) (funext fun a => ?_)).trans rfl
  match a with
  | ⟨0, _⟩ => rfl
  | ⟨1, _⟩ => rfl

theorem hostDivf_at {s : Shape} (a b : FVec Ideal s .f32) (j : s.Idx) : Host.divf a b j = Ideal.div (a j) (b j) := rfl
theorem maximumf_at {s : Shape} (a b : FVec Ideal s .f32) (j : s.Idx) : maximumf a b j = max (a j) (b j) := rfl
theorem constant_at {s : Shape} (b : BitVec 32) (j : s.Idx) : constant (F := Ideal) s .f32 b j = Ideal.ofBits .f32 b := rfl

end

/-- The first layer's features, `x · W1`. -/
def support1 (x : FVec Ideal S10000x128 .f32) (w1 : FVec Ideal S128x128 .f32) : FVec Ideal S10000x128 .f32 :=
  Host.dotGeneral dot_S10000x128_S128x128_S10000x128_1_0_0_1_n_n none x w1

/-- The second layer's features, `relu (adj · support1 + b1) · W2`. -/
def support2 (adj : FVec Ideal S10000x10000 .f32) (s1 : FVec Ideal S10000x128 .f32) (b1 : FVec Ideal S128 .f32)
    (w2 : FVec Ideal S128x40 .f32) : FVec Ideal S10000x40 .f32 :=
  Host.dotGeneral dot_S10000x128_S128x40_S10000x40_1_0_0_1_n_n none
    (maximumf (addf (Host.dotGeneral dot_S10000x10000_S10000x128_S10000x128_1_0_0_1_n_n none adj s1)
        (broadcastInDim S10000x128 ![0, 1] bcast_S1x128_S10000x128_0_1 (broadcastInDim S1x128 ![1] bcast_S128_S1x128_1 b1)))
      (broadcastInDim S10000x128 ![] bcast_S_S10000x128 (constant S_ .f32 0x00000000#32))) w2

/-- The step of the second layer's features: their largest size, at least a small number, over 127. -/
def stepOf (s2 : FVec Ideal S10000x40 .f32) : FVec Ideal S_ .f32 :=
  Host.divf (maximumf (Host.reduce FloatOps.maximumf (Host.absf s2) (constant S_ .f32 0xFF800000#32) reducesTo_S10000x40_S_d0_1 h_S_)
    (constant S_ .f32 0x0DA24260#32)) (constant S_ .f32 0x42FE0000#32)

/-- The features' codes at a step. -/
def featCodes (s2 : FVec Ideal S10000x40 .f32) (step : FVec Ideal S_ .f32) : FVec Ideal S10000x40 .f32 :=
  minimumf (broadcastInDim S10000x40 ![] bcast_S_S10000x40 (id (constant S_ .f32 0x42FE0000#32)))
    (maximumf (broadcastInDim S10000x40 ![] bcast_S_S10000x40 (id (constant S_ .f32 0xC2FE0000#32)))
      (Host.roundeven (Host.divf s2 (broadcastInDim S10000x40 ![] bcast_S_S10000x40 step))))

/-- The adjacency's codes. -/
def adjCodes (adj : FVec Ideal S10000x10000 .f32) : FVec Ideal S10000x10000 .f32 :=
  minimumf (broadcastInDim S10000x10000 ![] bcast_S_S10000x10000 (id (constant S_ .f32 0x42FE0000#32)))
    (maximumf (broadcastInDim S10000x10000 ![] bcast_S_S10000x10000 (id (constant S_ .f32 0xC3000000#32)))
      (Host.roundeven (subf (mulf adj (broadcastInDim S10000x10000 ![] bcast_S_S10000x10000 (constant S_ .f32 0x499BA3C0#32)))
        (broadcastInDim S10000x10000 ![] bcast_S_S10000x10000 (constant S_ .f32 0x43000000#32)))))

/-- The second layer before its log-softmax. -/
def logits (a : FVec Ideal S10000x10000 .f32) (s2 : FVec Ideal S10000x40 .f32) (step : FVec Ideal S_ .f32)
    (q : FVec Ideal S10000x40 .f32) (b2 : FVec Ideal S40 .f32) : FVec Ideal S10000x40 .f32 :=
  addf (addf (Host.dotGeneral dot_S10000x10000_S10000x40_S10000x40_1_0_0_1_n_n none
      (mulf (broadcastInDim S10000x10000 ![] bcast_S_S10000x10000 (constant S_ .f32 0x355289A1#32)) a)
      (mulf (broadcastInDim S10000x40 ![] bcast_S_S10000x40 step) q))
    (broadcastInDim S10000x40 ![0, 1] bcast_S1x40_S10000x40_0_1 (broadcastInDim S1x40 ![1] bcast_S40_S1x40_1
      (mulf (broadcastInDim S40 ![] bcast_S_S40 (constant S_ .f32 0x38D289A1#32))
        (Host.reduceAdd s2 (constant S_ .f32 0x00000000#32) reducesTo_S10000x40_S40_d0 h_S_)))))
    (broadcastInDim S10000x40 ![0, 1] bcast_S1x40_S10000x40_0_1 (broadcastInDim S1x40 ![1] bcast_S40_S1x40_1 b2))

/-- A row less its largest entry. -/
def shifted (z : FVec Ideal S10000x40 .f32) : FVec Ideal S10000x40 .f32 :=
  subf z (broadcastInDim S10000x40 ![0, 1] bcast_S10000x1_S10000x40_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x40_S10000_d1 h_S_))))

/-- The shifted row less the logarithm of the sum of its exponentials. -/
def normalised (y : FVec Ideal S10000x40 .f32) : FVec Ideal S10000x40 .f32 :=
  subf y (broadcastInDim S10000x40 ![0, 1] bcast_S10000x1_S10000x40_0_1 (Host.log (broadcastInDim S10000x1 ![0] bcast_S10000_S10000x1_0
    (Host.reduceAdd (Host.exp y) (constant S_ .f32 0x00000000#32) reducesTo_S10000x40_S10000_d1 h_S_))))

theorem support1_at (x : FVec Ideal S10000x128 .f32) (w1 : FVec Ideal S128x128 .f32) (k : Fin 10000) (h : Fin 128) :
    support1 x w1 (ix2 k h) = ∑ f : Fin 128, x (ix2 k f) * w1 (ix2 f h) := by
  pointwise [support1]

theorem support2_at (adj : FVec Ideal S10000x10000 .f32) (s1 : FVec Ideal S10000x128 .f32) (b1 : FVec Ideal S128 .f32)
    (w2 : FVec Ideal S128x40 .f32) (i : Fin 10000) (j : Fin 40) :
    support2 adj s1 b1 w2 (ix2 i j)
      = ∑ h : Fin 128, max ((∑ k : Fin 10000, adj (ix2 i k) * s1 (ix2 k h)) + b1 (ix1 h)) 0 * w2 (ix2 h j) := by
  pointwise [support2]

/-- The step is the features' largest size, at least the small number, over 127. -/
theorem stepOf_at (s2 : FVec Ideal S10000x40 .f32) :
    stepOf s2 ix0 = Ideal.div (max (largest s2) (Ideal.ofBits .f32 0x0DA24260#32)) (Ideal.ofBits .f32 0x42FE0000#32) := by
  unfold stepOf
  rw [hostDivf_at, maximumf_at, host_largest, constant_at, constant_at]

theorem featCodes_at (s2 : FVec Ideal S10000x40 .f32) (step : FVec Ideal S_ .f32) (k : Fin 10000) (j : Fin 40) :
    featCodes s2 step (ix2 k j) = ((code (-127) (Ideal.div (s2 (ix2 k j)) (step ix0)) : ℝ) : EReal) := by
  rw [← clip_round _ (by decide), ← ofBits_127, ← ofBits_neg_127]
  pointwise [featCodes]
  rfl

theorem adjCodes_at (adj : FVec Ideal S10000x10000 .f32) (i k : Fin 10000) :
    adjCodes adj (ix2 i k) = ((code (-128) (adj (ix2 i k) * Ideal.ofBits .f32 0x499BA3C0#32 - Ideal.ofBits .f32 0x43000000#32) : ℝ) : EReal) := by
  rw [← clip_round _ (by decide), ← ofBits_127, ← ofBits_neg_128]
  pointwise [adjCodes]
  rfl

theorem logits_at (a : FVec Ideal S10000x10000 .f32) (s2 : FVec Ideal S10000x40 .f32) (step : FVec Ideal S_ .f32)
    (q : FVec Ideal S10000x40 .f32) (b2 : FVec Ideal S40 .f32) (i : Fin 10000) (j : Fin 40) :
    logits a s2 step q b2 (ix2 i j) =
      (∑ k : Fin 10000, (da * a (ix2 i k)) * (step ix0 * q (ix2 k j)))
        + ((128 : ℝ) : EReal) * (da : EReal) * (∑ k : Fin 10000, s2 (ix2 k j)) + b2 (ix1 j) := by
  rw [← ofBits_128_da, ← ofBits_da]
  pointwise [logits]

theorem shifted_at (z : FVec Ideal S10000x40 .f32) (i : Fin 10000) (j : Fin 40) :
    shifted z (ix2 i j) = z (ix2 i j) - Finset.univ.fold max ⊥ (fun k : Fin 40 => z (ix2 i k)) := by
  pointwise [shifted]
  rw [ofBits_bot, max_eq_right bot_le]

theorem normalised_at (y : FVec Ideal S10000x40 .f32) (i : Fin 10000) (j : Fin 40) :
    normalised y (ix2 i j) = y (ix2 i j) - Ideal.log (∑ k : Fin 40, Ideal.exp (y (ix2 i k))) := by
  pointwise [normalised]

end Cert.Own

end
-- ==== Proof.RefValue.lean ====
/- The reference's result as the composition of the stages, and the precondition read as a bound on the sums of the int8
   product: the largest the sizes of its products can add up to is within the range that is exact. -/
module

public import proofs.«01_k».proof.Proof.Gen.ReferenceIdeal.Run
public import proofs.«01_k».proof.Proof.Gen.Pre_sums_in_range
public import proofs.«01_k».proof.Proof.Ref

@[expose] public section

set_option maxRecDepth 16384

noncomputable section

namespace Cert.Own

open Idealize.ShloMosaic Idealize.ShloMosaic.TcCoe

/-- The network of the six arguments, stage by stage. -/
def network (x : FVec Ideal ReferenceIdeal.S10000x128 .f32) (adj : FVec Ideal ReferenceIdeal.S10000x10000 .f32)
    (w1 : FVec Ideal ReferenceIdeal.S128x128 .f32) (b1 : FVec Ideal ReferenceIdeal.S128 .f32)
    (w2 : FVec Ideal ReferenceIdeal.S128x40 .f32) (b2 : FVec Ideal ReferenceIdeal.S40 .f32) :
    FVec Ideal ReferenceIdeal.S10000x40 .f32 :=
  have s2 := support2 adj (support1 x w1) b1 w2
  normalised (shifted (logits (adjCodes adj) s2 (stepOf s2) (featCodes s2 (stepOf s2)) b2))

section
open Cert.ReferenceIdeal Cert.ReferenceIdeal.Gen Cert.ReferenceIdeal.Value

theorem reference_eq (m : (ℓ : Loc nD τ sig) → Buf (Elt Ideal) ℓ) (c : Dev nD) :
    res_out0 m c = network (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  rfl

/-- The stated range, over the stages. -/
def rangeTest (a : FVec Ideal S10000x10000 .f32) (q : FVec Ideal S10000x40 .f32) : IVec S10000x40 1 :=
  cmpf .ole (Host.dotGeneral dot_S10000x10000_S10000x40_S10000x40_1_0_0_1_n_n none (Host.absf a) (Host.absf q))
    (broadcastInDim S10000x40 ![] bcast_S_S10000x40 (constant S_ .f32 0x4C800000#32))

theorem rangeTest_at (a : FVec Ideal S10000x10000 .f32) (q : FVec Ideal S10000x40 .f32) (i : Fin 10000) (j : Fin 40) :
    rangeTest a q (ix2 i j) = Ideal.cmp .ole (∑ k : Fin 10000, max (a (ix2 i k)) (-a (ix2 i k)) * max (q (ix2 k j)) (-q (ix2 k j)))
      (Ideal.ofBits .f32 0x4C800000#32) := by
  pointwise [rangeTest]
  rfl

theorem pre_eq (x : FVec Ideal S10000x128 .f32) (adj : FVec Ideal S10000x10000 .f32) (w1 : FVec Ideal S128x128 .f32)
    (b1 : FVec Ideal S128 .f32) (w2 : FVec Ideal S128x40 .f32) (b2 : FVec Ideal S40 .f32) :
    Pre_sums_in_range.fn (F := Ideal) x adj w1 b1 w2 b2
      = rangeTest (adjCodes adj) (featCodes (support2 adj (support1 x w1) b1 w2) (stepOf (support2 adj (support1 x w1) b1 w2))) := by
  rfl

/-- The codes of the two operands of the int8 product, as whole numbers. -/
def adjInt (adj : FVec Ideal S10000x10000 .f32) (i k : Fin 10000) : Int :=
  code (-128) (adj (ix2 i k) * Ideal.ofBits .f32 0x499BA3C0#32 - Ideal.ofBits .f32 0x43000000#32)
def featInt (s2 : FVec Ideal S10000x40 .f32) (k : Fin 10000) (j : Fin 40) : Int :=
  code (-127) (Ideal.div (s2 (ix2 k j)) (stepOf s2 ix0))

theorem range_of_pre (x : FVec Ideal S10000x128 .f32) (adj : FVec Ideal S10000x10000 .f32) (w1 : FVec Ideal S128x128 .f32)
    (b1 : FVec Ideal S128 .f32) (w2 : FVec Ideal S128x40 .f32) (b2 : FVec Ideal S40 .f32)
    (h : Pre_sums_in_range.fn (F := Ideal) x adj w1 b1 w2 b2 = fun _ => 1#1) (i : Fin 10000) (j : Fin 40) :
    ∑ k : Fin 10000, (adjInt adj i k * featInt (support2 adj (support1 x w1) b1 w2) k j).natAbs ≤ 2 ^ 26 := by
  have h1 := congrFun ((pre_eq x adj w1 b1 w2 b2).symm.trans h) (ix2 i j)
  rw [rangeTest_at] at h1
  have h2 := (Ideal.cmp_ole_eq_one _ _).mp h1
  rw [ofBits_bound] at h2
  simp only [adjCodes_at, featCodes_at] at h2
  exact abs_sum_le _ _ _ h2

/-- The network at an index: the log-softmax of the row of the int8 product scaled after it is summed. -/
def score (adj : FVec Ideal S10000x10000 .f32) (s2 : FVec Ideal S10000x40 .f32) (b2 : FVec Ideal S40 .f32) (i : Fin 10000) (j : Fin 40) : EReal :=
  (((∑ k : Fin 10000, adjInt adj i k * featInt s2 k j : Int) : ℝ) : EReal) * (stepOf s2 ix0 * (da : EReal))
    + ((128 : ℝ) : EReal) * (da : EReal) * (∑ k : Fin 10000, s2 (ix2 k j)) + b2 (ix1 j)

/-- The row less its largest entry, less the logarithm of the sum of the exponentials of that. -/
def logSoftmax (z : Fin 40 → EReal) (j : Fin 40) : EReal :=
  (z j - Finset.univ.fold max ⊥ z) - Ideal.log (∑ k : Fin 40, Ideal.exp (z k - Finset.univ.fold max ⊥ z))

theorem network_at (x : FVec Ideal S10000x128 .f32) (adj : FVec Ideal S10000x10000 .f32) (w1 : FVec Ideal S128x128 .f32)
    (b1 : FVec Ideal S128 .f32) (w2 : FVec Ideal S128x40 .f32) (b2 : FVec Ideal S40 .f32) (i : Fin 10000) (j : Fin 40) :
    network x adj w1 b1 w2 b2 (ix2 i j) = logSoftmax (score adj (support2 adj (support1 x w1) b1 w2) b2 i) j := by
  have e : ∀ j, logits (adjCodes adj) (support2 adj (support1 x w1) b1 w2) (stepOf (support2 adj (support1 x w1) b1 w2))
      (featCodes (support2 adj (support1 x w1) b1 w2) (stepOf (support2 adj (support1 x w1) b1 w2))) b2 (ix2 i j)
      = score adj (support2 adj (support1 x w1) b1 w2) b2 i j := fun j => by
    rw [logits_at, score]
    unfold featInt
    rw [scaled_sum]
    simp only [adjCodes_at, featCodes_at, adjInt]
  unfold network
  simp only [normalised_at, shifted_at, e, logSoftmax]

end

end Cert.Own

end
-- ==== Proof.Payloads.lean ====
/- What each kernel body stores, at an index, from the blocks it loads, over the extended reals. -/
module

public import proofs.«01_k».proof.Proof.Gen.KernelIdeal.Skeleton
public import proofs.«01_k».proof.Proof.Ref

@[expose] public section

set_option maxRecDepth 16384

noncomputable section

namespace Cert.KernelIdeal.Own

open Cert.KernelIdeal Cert.KernelIdeal.Gen Cert.Own
open Idealize.ShloMosaic Idealize.ShloMosaic.TcCoe

theorem k0_pay1_at (v0 : Vec Ideal S10000x128 .f32) (v1 : Vec Ideal S128x128 .f32) (k : Fin 10000) (h : Fin 128) :
    k0_pay1 v0 v1 (ix2 k h) = ∑ f : Fin 128, v0 (ix2 k f) * v1 (ix2 f h) := by
  pointwise [k0_pay1]

theorem k1_pay1_at (v0 : Vec Ideal S200x10000 .f32) (v1 : Vec Ideal S10000x128 .f32) (v4 : Vec Ideal S1x128 .f32)
    (v10 : Vec Ideal S128x40 .f32) (r : Fin 200) (j : Fin 40) :
    k1_pay1 v0 v1 v4 v10 (ix2 r j)
      = ∑ h : Fin 128, max ((∑ k : Fin 10000, v0 (ix2 r k) * v1 (ix2 k h)) + v4 (ix2 0 h)) 0 * v10 (ix2 h j) := by
  pointwise [k1_pay1]

theorem k1_pay2_at (v0 : Vec Ideal S200x10000 .f32) (v13 : Vec Ideal S1x1 .f32) (u : Fin 1) (r : Fin 200) (k : Fin 10000) :
    (k1_pay2 v0 v13 (ix3 u r k)).toInt
      = code (-128) (v0 (ix2 r k) * v13 (ix2 0 0) - Ideal.ofBits .f32 0x43000000#32) := by
  rw [← toInt_fptosi_code (-128) (by decide) (by decide), ← clip_round _ (by decide), ← ofBits_127, ← ofBits_neg_128]
  pointwise [k1_pay2]
  rfl

/-- The step from the largest size, whatever that is. -/
theorem step_of (R : FVec Ideal S1 .f32) :
    Scalar.divf (F := Ideal) (φ := .f32) (Scalar.maximumf (F := Ideal) (φ := .f32) (extractAt ![0, 0, 0] (shapeCast S1x1x1 R shapeCasts_S1_S1x1x1) inpos_S1x1x1_p0_0_0)
      (Scalar.ofBits .f32 0x0DA24260#32)) (Scalar.ofBits .f32 0x42FE0000#32)
      = Ideal.div (max (R (ix1 0)) (Ideal.ofBits .f32 0x0DA24260#32)) (Ideal.ofBits .f32 0x42FE0000#32) := by
  pointwise

theorem k2_pay2_eq (v0 : Vec Ideal S10000x40 .f32) : k2_pay2 v0 = stepOf v0 ix0 := by
  rw [stepOf_at, ← kernel_largest v0 shapeCasts_S10000x40_S1x10000x40 reduces_S1x10000x40_S1 (.inl rfl) rfl (ix1 0)]
  unfold k2_pay2 k2_pay1
  rw [shapeCast_self]
  exact step_of _

theorem k2_pay3_at (v0 : Vec Ideal S10000x40 .f32) (k : Fin 10000) (j : Fin 40) :
    (k2_pay3 v0 (ix2 k j)).toInt = code (-127) (Ideal.div (v0 (ix2 k j)) (stepOf v0 ix0)) := by
  rw [← toInt_fptosi_code (-127) (by decide) (by decide), ← clip_round _ (by decide), ← ofBits_127, ← ofBits_neg_127,
    ← k2_pay2_eq]
  generalize hs : k2_pay2 v0 = s
  pointwise [k2_pay3, k2_pay1, hs]
  rfl

theorem k2_pay4_at (v0 : Vec Ideal S10000x40 .f32) (u : Fin 1) (j : Fin 40) :
    k2_pay4 v0 (ix2 u j) = ∑ k : Fin 10000, v0 (ix2 k j) := by
  pointwise [k2_pay4, k2_pay1]

theorem k2_pay5_at (v0 : Vec Ideal S10000x40 .f32) (u : Fin 1) (j : Fin 40) :
    k2_pay5 v0 (ix2 u j) = stepOf v0 ix0 := by
  rw [← k2_pay2_eq]
  rfl

/-- The last body's rows before their log-softmax, from the words of the product. -/
def scaled (p : IVec S200x40 32) (d : EReal) (v8 v15 v21 : Vec Ideal S1x40 .f32) : FVec Ideal S200x40 .f32 :=
  addf (addf (mulf (sitofp .f32 p) (broadcastTo S200x40 (mulf (shapeCast S1x40 v8 shapeCasts_S1x40_S1x40) (broadcast S1x40 d)) broadcasts_S1x40_S200x40))
      (broadcastTo S200x40 (mulf (broadcast S1x40 (Scalar.mulf (F := Ideal) (φ := .f32) (Scalar.ofBits .f32 0x43000000#32) d)) (shapeCast S1x40 v15 shapeCasts_S1x40_S1x40)) broadcasts_S1x40_S200x40))
    (broadcastTo S200x40 (shapeCast S1x40 v21 shapeCasts_S1x40_S1x40) broadcasts_S1x40_S200x40)

/-- A row less its largest entry. -/
def shiftedRow (z : FVec Ideal S200x40 .f32) : FVec Ideal S200x40 .f32 :=
  subf z (broadcastTo S200x40 (shapeCast S200x1 (multiReduction .maximumf [1] S200 z 0xFF800000#32 reduces_S200x40_S200 (.inl rfl) rfl) shapeCasts_S200_S200x1) broadcasts_S200x1_S200x40)

/-- The shifted row less the logarithm of the sum of its exponentials. -/
def normalisedRow (y : FVec Ideal S200x40 .f32) : FVec Ideal S200x40 .f32 :=
  subf y (broadcastTo S200x40 (log (shapeCast S200x1 (multiReduction .add [1] S200 (exp y) 0x00000000#32 reduces_S200x40_S200 (.inl rfl) rfl) shapeCasts_S200_S200x1)) broadcasts_S200x1_S200x40)

/-- The words of the int8 product. -/
def product (v0 : Vec Ideal S1x200x10000 .i8) (v2 : Vec Ideal S10000x40 .i8) : IVec S200x40 32 :=
  matmulI8 IntMxuNumerics.v5e dot_S200x10000_S10000x40_S200x40_1_0_0_1_n_n (shapeCast S200x10000 v0 shapeCasts_S1x200x10000_S200x10000)
    (shapeCast S10000x40 v2 shapeCasts_S10000x40_S10000x40) (constantI S200x40 32 0#32)

theorem k3_pay1_eq (v0 : Vec Ideal S1x200x10000 .i8) (v2 : Vec Ideal S10000x40 .i8) (v5 : Vec Ideal S1x1 .f32)
    (v8 v15 v21 : Vec Ideal S1x40 .f32) :
    k3_pay1 v0 v2 v5 v8 v15 v21
      = normalisedRow (shiftedRow (scaled (product v0 v2) (extractAt ![0, 0] v5 inpos_S1x1_p0_0) v8 v15 v21)) := by
  rfl

theorem scaled_at (p : IVec S200x40 32) (d : EReal) (v8 v15 v21 : Vec Ideal S1x40 .f32) (r : Fin 200) (j : Fin 40) :
    scaled p d v8 v15 v21 (ix2 r j)
      = (((p (ix2 r j)).toInt : ℝ) : EReal) * (v8 (ix2 0 j) * d) + ((128 : ℝ) : EReal) * d * v15 (ix2 0 j) + v21 (ix2 0 j) := by
  rw [← ofBits_128]
  pointwise [scaled]
  rfl

theorem shiftedRow_at (z : FVec Ideal S200x40 .f32) (r : Fin 200) (j : Fin 40) :
    shiftedRow z (ix2 r j) = z (ix2 r j) - Finset.univ.fold max ⊥ (fun k : Fin 40 => z (ix2 r k)) := by
  pointwise [shiftedRow]
  rw [ofBits_bot]

theorem normalisedRow_at (y : FVec Ideal S200x40 .f32) (r : Fin 200) (j : Fin 40) :
    normalisedRow y (ix2 r j) = y (ix2 r j) - Ideal.log (∑ k : Fin 40, Ideal.exp (y (ix2 r k))) := by
  pointwise [normalisedRow]

/-- Where the product reads its right operand. -/
theorem right_index (r : Fin 200) (j : Fin 40) (k : Fin 10000) :
    dot_S200x10000_S10000x40_S200x40_1_0_0_1_n_n.rhsIdx (ix2 r j) (DotDims.contrIdx₁ _ (a := 1) (K := 10000) rfl rfl k) = ix2 k j := by
  funext a
  match a with
  | ⟨0, _⟩ => rfl
  | ⟨1, _⟩ => rfl

/-- Where it reads its left operand. -/
theorem left_index (r : Fin 200) (j : Fin 40) (k : Fin 10000) :
    dot_S200x10000_S10000x40_S200x40_1_0_0_1_n_n.lhsIdx (ix2 r j) (DotDims.contrIdx₁ _ (a := 1) (K := 10000) rfl rfl k) = ix2 r k := by
  funext a
  match a with
  | ⟨0, _⟩ => rfl
  | ⟨1, _⟩ => rfl

theorem row_at (v0 : Vec Ideal S1x200x10000 .i8) (r : Fin 200) (k : Fin 10000) :
    shapeCast S200x10000 v0 shapeCasts_S1x200x10000_S200x10000 (ix2 r k) = v0 (ix3 0 r k) := by
  pointwise

/-- A product whose sums of sizes are in range is the sum of the products of the words' numbers. -/
theorem product_at (v0 : Vec Ideal S1x200x10000 .i8) (v2 : Vec Ideal S10000x40 .i8) (r : Fin 200) (j : Fin 40)
    (h : ∑ k : Fin 10000, ((v0 (ix3 0 r k)).toInt * (v2 (ix2 k j)).toInt).natAbs ≤ 2 ^ 26) :
    (product v0 v2 (ix2 r j)).toInt = ∑ k : Fin 10000, (v0 (ix3 0 r k)).toInt * (v2 (ix2 k j)).toInt := by
  unfold product
  rw [shapeCast_self, matmulI8_toInt _ _ _ _ _ _ rfl]
  · unfold dotI8
    rw [DotDims.sum_contr₁ _ (a := 1) (K := 10000) rfl rfl]
    exact Finset.sum_congr rfl fun k _ => by rw [left_index, right_index, row_at]
  · unfold absDotI8
    rw [DotDims.sum_contr₁ _ (a := 1) (K := 10000) rfl rfl]
    refine (Finset.sum_congr rfl fun k _ => ?_).trans_le h
    rw [left_index, right_index, row_at]

end Cert.KernelIdeal.Own

end
-- ==== Proof.Regions.lean ====
/- What each launch leaves in its result arrays, over the extended reals, from whatever the arrays hold when it is entered. -/
module

public import proofs.«01_k».proof.Proof.Gen.KernelIdeal.Frame
public import proofs.«01_k».proof.Proof.Payloads
public import proofs.«01_k».proof.Proof.RefValue
public import Idealize.ShloMosaic.Lib.Pipeline.ValueKit

@[expose] public section

set_option maxRecDepth 16384

noncomputable section

namespace Cert.KernelIdeal.Own

open Cert.KernelIdeal Cert.KernelIdeal.Gen Cert.Own
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![0, 0] ∧ win0_1.index t = ![0, 0] ∧ win0_2.index t = ![0, 0] :=
  (by decide +kernel : ∀ t : Fin grid0.N, _)

theorem block0_0 : iblk0 V c 0 t0_0 = V c main_arg0 := by
  blk_ext! [iblk0, (idx0 t0_0).1]

theorem block0_1 : iblk0 V c 1 t0_0 = V c main_arg2 := by
  blk_ext! [iblk0, (idx0 t0_0).2.1]

/-- The first launch leaves the product of its two operands. -/
theorem region0 : (dat0 V c).arrAt 2 cfg0.N = k0_pay1 (V c main_arg0) (V c main_arg2) := by
  refine (dat0 V c).arrAt_eq_of_after_last 2 t0_0 (by decide +kernel) _ fun j => ?_
  blk_simp
  rw [after0_2, block0_0, block0_1]
  frame_out

theorem idx1 : ∀ t : Fin cfg1.N, win1_0.index t = ![(grid1.coords t 0).val, 0] ∧ win1_1.index t = ![0, 0] ∧ win1_2.index t = ![0, 0]
    ∧ win1_3.index t = ![0, 0] ∧ win1_4.index t = ![0, 0] ∧ win1_5.index t = ![(grid1.coords t 0).val, 0]
    ∧ win1_6.index t = ![(grid1.coords t 0).val, 0, 0] :=
  (by decide +kernel : ∀ t : Fin grid1.N, _)

theorem block1_1 (t : Fin cfg1.N) : iblk1 V c 1 t = V c main_v2 := by
  blk_ext! [iblk1, (idx1 t).2.1]
theorem block1_2 (t : Fin cfg1.N) : iblk1 V c 2 t = V c main_v3 := by
  blk_ext! [iblk1, (idx1 t).2.2.1]
theorem block1_3 (t : Fin cfg1.N) : iblk1 V c 3 t = V c main_arg4 := by
  blk_ext! [iblk1, (idx1 t).2.2.2.1]
theorem block1_4 (t : Fin cfg1.N) : iblk1 V c 4 t = V c main_v1 := by
  blk_ext! [iblk1, (idx1 t).2.2.2.2.1]

/-- The second launch's features. -/
def features (adj : FVec Ideal S10000x10000 .f32) (s1 : FVec Ideal S10000x128 .f32) (b : FVec Ideal S1x128 .f32)
    (w2 : FVec Ideal S128x40 .f32) : FVec Ideal S10000x40 .f32 :=
  fun i => ∑ h : Fin 128, max ((∑ k : Fin 10000, adj (ix2 (i 0) k) * s1 (ix2 k h)) + b (ix2 0 h)) 0 * w2 (ix2 h (i 1))

/-- Its codes of the adjacency, 200 rows to a block. -/
def codes (adj : FVec Ideal S10000x10000 .f32) (inv : FVec Ideal S1x1 .f32) : IVec S50x200x10000 8 :=
  fun i => Ideal.fptosi 8 ((code (-128) (adj (ix2 ⟨(i 0).val * 200 + (i 1).val, by have h0 : (i 0).val < 50 := (i 0).isLt; have h1 : (i 1).val < 200 := (i 1).isLt; omega⟩ (i 2)) * inv (ix2 0 0)
    - Ideal.ofBits .f32 0x43000000#32) : ℝ) : EReal)

/-- Row `r` of the block of point `t` is row `200 t + r` of the adjacency. -/
theorem block1_0 (t : Fin cfg1.N) (r : Fin 200) (k : Fin 10000) (i : Fin 10000) (hi : i.val = (grid1.coords t 0).val * 200 + r.val) :
    iblk1 V c 0 t (ix2 r k) = V c main_arg1 (ix2 i k) := by
  blk_point [iblk1, (idx1 t).1]

theorem region1_features : (dat1 V c).arrAt 5 cfg1.N = features (V c main_arg1) (V c main_v2) (V c main_v3) (V c main_arg4) := by
  refine (dat1 V c).arrAt_eq_of_covers 5 _ (by decide +kernel) fun t hf y => ?_
  obtain ⟨r, j, rfl⟩ : ∃ (r : Fin 200) (j : Fin 40), y = ix2 r j := ⟨y 0, y 1, by funext a; match a with | ⟨0, _⟩ => rfl | ⟨1, _⟩ => rfl⟩
  have h0 : ((((cfg1.win 5).blk t).view.emb (ix2 r j)) 0).val = (grid1.coords t 0).val * 200 + r.val := by
    blk_simp [(idx1 t).2.2.2.2.2.1]
  have h1 : (((cfg1.win 5).blk t).view.emb (ix2 r j)) 1 = j := by
    apply Fin.ext
    blk_simp [(idx1 t).2.2.2.2.2.1]
  generalize ((cfg1.win 5).blk t).view.emb (ix2 r j) = i at h0 h1
  blk_simp
  rw [after1_5, block1_1, block1_2, block1_3, block1_4]
  frame_out
  rw [k1_pay1_at]
  simp only [block1_0 V c t r _ (i 0) h0]
  unfold features
  rw [h1]

theorem region1_codes : (dat1 V c).arrAt 6 cfg1.N = codes (V c main_arg1) (V c main_v1) := by
  refine (dat1 V c).arrAt_eq_of_covers 6 _ (by decide +kernel) fun t hf y => ?_
  obtain ⟨u, r, k, rfl⟩ : ∃ (u : Fin 1) (r : Fin 200) (k : Fin 10000), y = ix3 u r k :=
    ⟨y 0, y 1, y 2, by funext a; match a with | ⟨0, _⟩ => rfl | ⟨1, _⟩ => rfl | ⟨2, _⟩ => rfl⟩
  have h0 : ((((cfg1.win 6).blk t).view.emb (ix3 u r k)) 0).val = (grid1.coords t 0).val := by
    blk_simp [(idx1 t).2.2.2.2.2.2]
  have h1 : ((((cfg1.win 6).blk t).view.emb (ix3 u r k)) 1).val = r.val := by
    blk_simp [(idx1 t).2.2.2.2.2.2]
  have h2 : (((cfg1.win 6).blk t).view.emb (ix3 u r k)) 2 = k := by
    apply Fin.ext
    blk_simp [(idx1 t).2.2.2.2.2.2]
  generalize ((cfg1.win 6).blk t).view.emb (ix3 u r k) = i at h0 h1 h2
  blk_simp
  rw [after1_6, block1_4]
  frame_out
  apply BitVec.eq_of_toInt_eq
  unfold codes
  rw [k1_pay2_at, toInt_fptosi_code (-128) (by decide) (by decide), h2]
  rw [block1_0 V c t r k ⟨(i 0).val * 200 + (i 1).val, _⟩ (by rw [← h0, ← h1])]

theorem idx2 : ∀ t : Fin cfg2.N, win2_0.index t = ![0, 0] ∧ win2_1.index t = ![0, 0] ∧ win2_2.index t = ![0, 0] :=
  (by decide +kernel : ∀ t : Fin grid2.N, _)

theorem block2_0 : iblk2 V c 0 t2_0 = V c main_v4_0 := by
  blk_ext! [iblk2, (idx2 t2_0).1]

/-- The third launch leaves the codes of the features … -/
theorem region2_codes : (dat2 V c).arrAt 1 cfg2.N = k2_pay3 (V c main_v4_0) := by
  refine (dat2 V c).arrAt_eq_of_after_last 1 t2_0 (by decide +kernel) _ fun j => ?_
  blk_simp
  rw [after2_1, block2_0]
  frame_out

/-- … and their column sums over the step. -/
def sumsAndStep (s2 : FVec Ideal S10000x40 .f32) : FVec Ideal S2x40 .f32 :=
  fun i => if (i 0).val = 0 then ∑ k : Fin 10000, s2 (ix2 k (i 1)) else stepOf s2 ix0

theorem region2_sums : (dat2 V c).arrAt 2 cfg2.N = sumsAndStep (V c main_v4_0) := by
  refine (dat2 V c).arrAt_eq_of_after_last 2 t2_0 (by decide +kernel) _ fun j => ?_
  blk_simp
  rw [after2_2, block2_0]
  frame_open
  rw [View.ld_unit_lit _ _ (by decide)]
  canon_tiles x h
  · obtain ⟨u, v, rfl⟩ : ∃ (u : Fin 1) (v : Fin 40), x = ix2 u v := ⟨x 0, x 1, by funext a; match a with | ⟨0, _⟩ => rfl | ⟨1, _⟩ => rfl⟩
    rw [k2_pay5_at, sumsAndStep, if_neg (by rw [h0]; omega)]
  · obtain ⟨u, v, rfl⟩ : ∃ (u : Fin 1) (v : Fin 40), x = ix2 u v := ⟨x 0, x 1, by funext a; match a with | ⟨0, _⟩ => rfl | ⟨1, _⟩ => rfl⟩
    rw [k2_pay4_at, sumsAndStep, if_pos (by rw [h0]; omega), show j 1 = v from Fin.ext h1]

theorem idx3 : ∀ t : Fin cfg3.N, win3_0.index t = ![(grid3.coords t 0).val, 0, 0] ∧ win3_1.index t = ![0, 0] ∧ win3_2.index t = ![0, 0]
    ∧ win3_3.index t = ![0, 0] ∧ win3_4.index t = ![0, 0] ∧ win3_5.index t = ![(grid3.coords t 0).val, 0] :=
  (by decide +kernel : ∀ t : Fin grid3.N, _)

theorem block3_1 (t : Fin cfg3.N) : iblk3 V c 1 t = V c main_v5_0 := by
  blk_ext! [iblk3, (idx3 t).2.1]
theorem block3_2 (t : Fin cfg3.N) : iblk3 V c 2 t = V c main_v5_1 := by
  blk_ext! [iblk3, (idx3 t).2.2.1]
theorem block3_3 (t : Fin cfg3.N) : iblk3 V c 3 t = V c main_v6 := by
  blk_ext! [iblk3, (idx3 t).2.2.2.1]
theorem block3_4 (t : Fin cfg3.N) : iblk3 V c 4 t = V c main_v0 := by
  blk_ext! [iblk3, (idx3 t).2.2.2.2.1]

theorem block3_0 (t : Fin cfg3.N) (r : Fin 200) (k : Fin 10000) (p : Fin 50) (hp : p.val = (grid3.coords t 0).val) :
    iblk3 V c 0 t (ix3 0 r k) = V c main_v4_1 (ix3 p r k) := by
  blk_point [iblk3, (idx3 t).1]

/-- The two rows of the third launch's second result, as the last body loads them. -/
theorem ld_step (aux : Vec Ideal S2x40 .f32) (j : Fin 40) : View.ld aux r3_3 (ix2 0 j) = aux (ix2 1 j) :=
  View.ld_unit_apply_of _ _ _ _ _ _ fun a => by match a with | ⟨0, _⟩ => rfl | ⟨1, _⟩ => exact (Nat.zero_add _).symm
theorem ld_sums (aux : Vec Ideal S2x40 .f32) (j : Fin 40) : View.ld aux r3_4 (ix2 0 j) = aux (ix2 0 j) :=
  View.ld_unit_apply_of _ _ _ _ _ _ fun a => by match a with | ⟨0, _⟩ => rfl | ⟨1, _⟩ => exact (Nat.zero_add _).symm

/-- A row of the last launch before its log-softmax: row `r` of block `p` of the codes against the features' codes. -/
def rowScore (qa : IVec S50x200x10000 8) (qs : IVec S10000x40 8) (aux : FVec Ideal S2x40 .f32) (b : FVec Ideal S1x40 .f32)
    (d : EReal) (p : Fin 50) (r : Fin 200) (j : Fin 40) : EReal :=
  (((∑ k : Fin 10000, (qa (ix3 p r k)).toInt * (qs (ix2 k j)).toInt : Int) : ℝ) : EReal) * (aux (ix2 1 j) * d)
    + ((128 : ℝ) : EReal) * d * aux (ix2 0 j) + b (ix2 0 j)

/-- One block of the last launch, at an index. -/
theorem last_at (v0 : Vec Ideal S1x200x10000 .i8) (qa : IVec S50x200x10000 8) (p : Fin 50) (r : Fin 200)
    (e : ∀ k, v0 (ix3 0 r k) = qa (ix3 p r k)) (qs : Vec Ideal S10000x40 .i8) (v5 : Vec Ideal S1x1 .f32) (aux : Vec Ideal S2x40 .f32)
    (b : Vec Ideal S1x40 .f32)
    (h : ∀ j, ∑ k : Fin 10000, ((qa (ix3 p r k)).toInt * (qs (ix2 k j)).toInt).natAbs ≤ 2 ^ 26) (j : Fin 40) :
    k3_pay1 v0 qs v5 (View.ld aux r3_3) (View.ld aux r3_4) b (ix2 r j)
      = logSoftmax (rowScore qa qs aux b (v5 (ix2 0 0)) p r) j := by
  have z : ∀ j, scaled (product v0 qs) (extractAt ![0, 0] v5 inpos_S1x1_p0_0) (View.ld aux r3_3) (View.ld aux r3_4) b (ix2 r j)
      = rowScore qa qs aux b (v5 (ix2 0 0)) p r j := fun j => by
    rw [scaled_at, product_at v0 qs r j (by simpa only [e] using h j), ld_step, ld_sums]
    simp only [e]
    unfold rowScore
    rw [show extractAt ![0, 0] v5 inpos_S1x1_p0_0 = v5 (ix2 0 0) from by pointwise]
  rw [k3_pay1_eq]
  simp only [normalisedRow_at, shiftedRow_at, z, logSoftmax]

/-- The last launch's result, where the sums of the int8 product's sizes are in range. -/
theorem region3 (G : FVec Ideal S10000x40 .f32)
    (h : ∀ p r j, ∑ k : Fin 10000, ((V c main_v4_1 (ix3 p r k) : BitVec 8).toInt * (V c main_v5_0 (ix2 k j) : BitVec 8).toInt).natAbs ≤ 2 ^ 26)
    (hG : ∀ (p : Fin 50) (r : Fin 200) (i : Fin 10000) (j : Fin 40), i.val = p.val * 200 + r.val →
      logSoftmax (rowScore (V c main_v4_1) (V c main_v5_0) (V c main_v5_1) (V c main_v6) (V c main_v0 (ix2 0 0)) p r) j = G (ix2 i j)) :
    (dat3 V c).arrAt 5 cfg3.N = G := by
  refine (dat3 V c).arrAt_eq_of_covers 5 _ (by decide +kernel) fun t hf y => ?_
  obtain ⟨r, j, rfl⟩ : ∃ (r : Fin 200) (j : Fin 40), y = ix2 r j := ⟨y 0, y 1, by funext a; match a with | ⟨0, _⟩ => rfl | ⟨1, _⟩ => rfl⟩
  have h0 : ((((cfg3.win 5).blk t).view.emb (ix2 r j)) 0).val = (grid3.coords t 0).val * 200 + r.val := by
    blk_simp [(idx3 t).2.2.2.2.2]
  have h1 : (((cfg3.win 5).blk t).view.emb (ix2 r j)) 1 = j := by
    apply Fin.ext
    blk_simp [(idx3 t).2.2.2.2.2]
  generalize ((cfg3.win 5).blk t).view.emb (ix2 r j) = i at h0 h1
  blk_simp
  rw [after3_5, block3_1, block3_2, block3_3, block3_4]
  frame_out
  rw [last_at (iblk3 V c 0 t) (V c main_v4_1) (grid3.coords t 0) r (fun k => block3_0 V c t r k _ rfl) _ _ _ _ (h _ r) j]
  rw [hG (grid3.coords t 0) r (i 0) j h0]
  congr 1
  funext a
  match a with
  | ⟨0, _⟩ => rfl
  | ⟨1, _⟩ => exact h1.symm

end Cert.KernelIdeal.Own

end
-- ==== Proof.Value.lean ====
/- The kernel's result array after its run, over the extended reals: the launches' results put together are the network. -/
module

public import proofs.«01_k».proof.Proof.Regions
public import Idealize.ShloMosaic.Lib.StableHlo.ReadAt

@[expose] public section

set_option maxRecDepth 16384

noncomputable section

namespace Cert.KernelIdeal.Own

open Cert.KernelIdeal Cert.KernelIdeal.Gen Cert.Own
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The six arguments. -/
def argX : FVec Ideal S10000x128 .f32 := m ((c : Thread nD τ).loc main_arg0)
def argAdj : FVec Ideal S10000x10000 .f32 := m ((c : Thread nD τ).loc main_arg1)
def argW1 : FVec Ideal S128x128 .f32 := m ((c : Thread nD τ).loc main_arg2)
def argB1 : FVec Ideal S128 .f32 := m ((c : Thread nD τ).loc main_arg3)
def argW2 : FVec Ideal S128x40 .f32 := m ((c : Thread nD τ).loc main_arg4)
def argB2 : FVec Ideal S40 .f32 := m ((c : Thread nD τ).loc main_arg5)

/-- The features of the second layer. -/
def feat : FVec Ideal S10000x40 .f32 := support2 (argAdj m c) (support1 (argX m c) (argW1 m c)) (argB1 m c) (argW2 m c)

/-! ## What the host operations leave -/

theorem at_v0 : W1 m ρ c (Proc.devRef .tc main_v0) (ix2 0 0) = (da : EReal) := by
  rw [← ofBits_da]
  after_reads_at

theorem at_v1 : W1 m ρ c (Proc.devRef .tc main_v1) (ix2 0 0) = Ideal.ofBits .f32 0x499BA3C0#32 := by
  after_reads_at

theorem at_v3 (h : Fin 128) : W3 m ρ c (Proc.devRef .tc main_v3) (ix2 0 h) = argB1 m c (ix1 h) := by
  have e : W2 m ρ c (Proc.devRef .tc main_arg3) = argB1 m c := W2_args m ρ c main_arg3 (by decide)
  rw [← e]
  after_reads_at

theorem at_v6 (j : Fin 40) : W6 m ρ c (Proc.devRef .tc main_v6) (ix2 0 j) = argB2 m c (ix1 j) := by
  have e : W5 m ρ c (Proc.devRef .tc main_arg5) = argB2 m c := W5_args m ρ c main_arg5 (by decide)
  rw [← e]
  after_reads_at

/-! ## What each launch leaves -/

theorem W2_v2 : W2 m ρ c (Proc.devRef .tc main_v2) = support1 (argX m c) (argW1 m c) := by
  refine (W2_arr m ρ c 2).trans ((region0 (V1 m ρ) c).trans ?_)
  rw [show V1 m ρ c main_arg0 = argX m c from W1_args m ρ c main_arg0 (by decide),
    show V1 m ρ c main_arg2 = argW1 m c from W1_args m ρ c main_arg2 (by decide)]
  funext i
  obtain ⟨k, h, rfl⟩ : ∃ (k : Fin 10000) (h : Fin 128), i = ix2 k h := ⟨i 0, i 1, by funext a; match a with | ⟨0, _⟩ => rfl | ⟨1, _⟩ => rfl⟩
  rw [k0_pay1_at, support1_at]

theorem W3_adj : V3 m ρ c main_arg1 = argAdj m c := W3_args m ρ c main_arg1 (by decide)
theorem W3_v2 : V3 m ρ c main_v2 = support1 (argX m c) (argW1 m c) := (W3_of m ρ c main_v2 (by decide)).trans (W2_v2 m ρ c)
theorem W3_w2 : V3 m ρ c main_arg4 = argW2 m c := W3_args m ρ c main_arg4 (by decide)

theorem W4_feat : W4 m ρ c (Proc.devRef .tc main_v4_0) = feat m c := by
  refine (W4_arr m ρ c 5).trans ((region1_features (V3 m ρ) c).trans ?_)
  rw [W3_adj, W3_v2, W3_w2]
  funext i
  obtain ⟨i, j, rfl⟩ : ∃ (k : Fin 10000) (j : Fin 40), i = ix2 k j := ⟨i 0, i 1, by funext a; match a with | ⟨0, _⟩ => rfl | ⟨1, _⟩ => rfl⟩
  unfold feat features
  rw [support2_at]
  simp only [show ∀ h : Fin 128, V3 m ρ c main_v3 (ix2 0 h) = argB1 m c (ix1 h) from at_v3 m ρ c]
  rfl

theorem W4_codes : W4 m ρ c (Proc.devRef .tc main_v4_1) = codes (argAdj m c) (V3 m ρ c main_v1) := by
  refine (W4_arr m ρ c 6).trans ((region1_codes (V3 m ρ) c).trans ?_)
  rw [W3_adj]

theorem W3_v1 : V3 m ρ c main_v1 (ix2 0 0) = Ideal.ofBits .f32 0x499BA3C0#32 := by
  rw [show V3 m ρ c main_v1 = W1 m ρ c (Proc.devRef .tc main_v1) from (W3_of m ρ c main_v1 (by decide)).trans (W2_of m ρ c main_v1 (by decide))]
  exact at_v1 m ρ c

/-- The words of the adjacency's codes, as whole numbers. -/
theorem codes_toInt (p : Fin 50) (r : Fin 200) (k i : Fin 10000) (hi : i.val = p.val * 200 + r.val) :
    (codes (argAdj m c) (V3 m ρ c main_v1) (ix3 p r k)).toInt = adjInt (argAdj m c) i k := by
  unfold codes adjInt
  rw [toInt_fptosi_code (-128) (by decide) (by decide), W3_v1]
  rw [show i = ⟨p.val * 200 + r.val, hi ▸ i.isLt⟩ from Fin.ext hi]
  rfl

theorem W5_codes2 : W5 m ρ c (Proc.devRef .tc main_v5_0) = k2_pay3 (F := Ideal) (feat m c) := by
  refine (W5_arr m ρ c 1).trans ((region2_codes (V4 m ρ) c).trans ?_)
  rw [show V4 m ρ c main_v4_0 = feat m c from W4_feat m ρ c]

theorem W5_sums : W5 m ρ c (Proc.devRef .tc main_v5_1) = sumsAndStep (feat m c) := by
  refine (W5_arr m ρ c 2).trans ((region2_sums (V4 m ρ) c).trans ?_)
  rw [show V4 m ρ c main_v4_0 = feat m c from W4_feat m ρ c]

theorem codes2_toInt (k : Fin 10000) (j : Fin 40) : (k2_pay3 (F := Ideal) (feat m c) (ix2 k j)).toInt = featInt (feat m c) k j :=
  k2_pay3_at _ k j

theorem W6_codes : V6 m ρ c main_v4_1 = codes (argAdj m c) (V3 m ρ c main_v1) :=
  ((W6_of m ρ c main_v4_1 (by decide)).trans (W5_of m ρ c main_v4_1 (by decide))).trans (W4_codes m ρ c)
theorem W6_codes2 : V6 m ρ c main_v5_0 = k2_pay3 (F := Ideal) (feat m c) := (W6_of m ρ c main_v5_0 (by decide)).trans (W5_codes2 m ρ c)
theorem W6_sums : V6 m ρ c main_v5_1 = sumsAndStep (feat m c) := (W6_of m ρ c main_v5_1 (by decide)).trans (W5_sums m ρ c)
theorem W6_da : V6 m ρ c main_v0 (ix2 0 0) = (da : EReal) := by
  rw [show V6 m ρ c main_v0 = W1 m ρ c (Proc.devRef .tc main_v0) from
    (W6_of m ρ c main_v0 (by decide)).trans ((W5_of m ρ c main_v0 (by decide)).trans ((W4_of m ρ c main_v0 (by decide)).trans
      ((W3_of m ρ c main_v0 (by decide)).trans (W2_of m ρ c main_v0 (by decide)))))]
  exact at_v0 m ρ c

/-- The result array after the run, where the sums of the int8 product's sizes are in range. -/
theorem W7_result (h : ∀ (i : Fin 10000) (j : Fin 40), ∑ k : Fin 10000, (adjInt (argAdj m c) i k * featInt (feat m c) k j).natAbs ≤ 2 ^ 26) :
    W7 m ρ c (Proc.devRef .tc main_v7) = network (argX m c) (argAdj m c) (argW1 m c) (argB1 m c) (argW2 m c) (argB2 m c) := by
  refine (W7_arr m ρ c 5).trans (region3 (V6 m ρ) c _ (fun p r j => ?_) fun p r i j hi => ?_)
  · rw [W6_codes, W6_codes2]
    simp only [codes2_toInt, codes_toInt m ρ c p r _ ⟨p.val * 200 + r.val, by omega⟩ rfl]
    exact h _ j
  · rw [network_at, W6_codes, W6_codes2, W6_sums, W6_da]
    congr 1
    funext j
    unfold rowScore score
    simp only [codes2_toInt, codes_toInt m ρ c p r _ i hi]
    rw [show V6 m ρ c main_v6 (ix2 0 j) = argB2 m c (ix1 j) from at_v6 m ρ c j]
    rfl

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sums_in_range
public import proofs.«01_k».proof.Proof.Run
public import proofs.«01_k».proof.Proof.Same
public import proofs.«01_k».proof.Proof.RefValue
public import proofs.«01_k».proof.Proof.Value

@[expose] public section

set_option maxRecDepth 16384

noncomputable section

namespace Cert.Proof

open Idealize.ShloMosaic Idealize.ShloMosaic.TcCoe Idealize.SL.Sem

/-- The kernel as it is printed: its text is the idealization's, whose run is proved at any float values. -/
theorem frame_kernel : Cert.quiescent_Kernel (hKernel := Cert.Kernel.Gen.facts) :=
  fun m g _ => by
  rw [Cert.Same.table, Cert.Same.main]
  exact Cert.KernelIdeal.Own.frame_of_run (F := Bits) m g

theorem frame_kernel_ideal : Cert.quiescent_KernelIdeal (hKernelIdeal := Cert.KernelIdeal.Gen.facts) :=
  fun m g _ => Cert.KernelIdeal.Own.frame_of_run (F := Ideal) m g

theorem frame_kernel_ideal_pre : Cert.quiescent_KernelIdeal_pre_sums_in_range (hKernelIdeal := Cert.KernelIdeal.Gen.facts)
    (hPre_sums_in_range := Cert.Pre_sums_in_range.Gen.facts) :=
  fun m g _ => Cert.KernelIdeal.Own.frame_of_run (F := Ideal) m g

/-- The reference declares no semaphore, so its counters are zero at every state. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem (c.tc.loc ReferenceIdeal.main_arg0) = m (c.tc.loc ReferenceIdeal.main_arg0)
        ∧ r.2.mem (c.tc.loc ReferenceIdeal.main_arg1) = m (c.tc.loc ReferenceIdeal.main_arg1)
        ∧ r.2.mem (c.tc.loc ReferenceIdeal.main_arg2) = m (c.tc.loc ReferenceIdeal.main_arg2)
        ∧ r.2.mem (c.tc.loc ReferenceIdeal.main_arg3) = m (c.tc.loc ReferenceIdeal.main_arg3)
        ∧ r.2.mem (c.tc.loc ReferenceIdeal.main_arg4) = m (c.tc.loc ReferenceIdeal.main_arg4)
        ∧ r.2.mem (c.tc.loc ReferenceIdeal.main_arg5) = m (c.tc.loc ReferenceIdeal.main_arg5))
        ∧ r.2.sem = fun _ => 0) :=
  (θ_run _ _ _).mono (fun r h => ⟨fun c => (h c).2, funext fun s => by
    exact ((by decide : ∀ s : SemLoc ReferenceIdeal.sig, False) s.2).elim⟩) (ReferenceIdeal.Value.run m g)

theorem algebraic : Cert.algebraic_KernelIdeal_ReferenceIdeal_pre_sums_in_range (hKernelIdeal := Cert.KernelIdeal.Gen.facts)
    (hReferenceIdeal := Cert.ReferenceIdeal.Gen.facts) (hPre_sums_in_range := Cert.Pre_sums_in_range.Gen.facts) := by
  intro m g m' g' hpre hagree
  refine ⟨fun c => KernelIdeal.Gen.W7 m g c (Proc.devRef .tc KernelIdeal.main_v7), ?_, ?_⟩
  · exact (θ_run _ _ _).mono (fun r h c => ⟨(h.1 c).1, (h.1 c).2 _ (by decide), (h.1 c).2 _ (by decide), (h.1 c).2 _ (by decide),
      (h.1 c).2 _ (by decide), (h.1 c).2 _ (by decide), (h.1 c).2 _ (by decide)⟩) (KernelIdeal.Own.run m g)
  · refine (θ_run _ _ _).mono (fun r h c => ⟨(h c).1.trans ?_, (h c).2⟩) (ReferenceIdeal.Value.run m' g')
    obtain ⟨h0, h1, h2, h3, h4, h5⟩ := hagree c
    refine ((Cert.Own.reference_eq m' c).trans ?_).trans
      (KernelIdeal.Own.W7_result m g c (Cert.Own.range_of_pre _ _ _ _ _ _ (hpre c))).symm
    rw [h0, h1, h2, h3, h4, h5]
    rfl

theorem claim : Cert.Claim :=
  ⟨Cert.Kernel.Gen.facts, Cert.KernelIdeal.Gen.facts, Cert.ReferenceIdeal.Gen.facts, Cert.Pre_sums_in_range.Gen.facts,
    frame_kernel, frame_kernel_ideal, frame_kernel_ideal_pre, fun m g _ => frame_reference m g, fun m g _ => frame_reference m g,
    trivial, algebraic⟩

end Cert.Proof

end
